-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_ReferenceAnchorFirstIdeal (m : (ℓ : Loc Cert.ReferenceAnchorFirstIdeal.nD Cert.ReferenceAnchorFirstIdeal.τ Cert.ReferenceAnchorFirstIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceAnchorFirstIdeal [hReferenceAnchorFirstIdeal : Cert.ReferenceAnchorFirstIdeal.Facts] : Prop :=
  ∀ (m : (ℓ : Loc Cert.ReferenceAnchorFirstIdeal.nD Cert.ReferenceAnchorFirstIdeal.τ Cert.ReferenceAnchorFirstIdeal.sig) → Buf (Elt Ideal) ℓ) (g : Dev Cert.ReferenceAnchorFirstIdeal.nD → PrngReg), Pre_ReferenceAnchorFirstIdeal m →
    θ_run (Cert.ReferenceAnchorFirstIdeal.defs (F := Ideal)) (onTc (τ := Cert.ReferenceAnchorFirstIdeal.τ) (Cert.ReferenceAnchorFirstIdeal.main (F := Ideal))) ⟨m, fun _ => 0, g⟩ (fun r => (∀ c : Dev Cert.ReferenceAnchorFirstIdeal.nD,
      r.2.mem ((c.tc : Thread Cert.ReferenceAnchorFirstIdeal.nD Cert.ReferenceAnchorFirstIdeal.τ).loc Cert.ReferenceAnchorFirstIdeal.main_arg0) = m ((c.tc : Thread Cert.ReferenceAnchorFirstIdeal.nD Cert.ReferenceAnchorFirstIdeal.τ).loc Cert.ReferenceAnchorFirstIdeal.main_arg0)
      ∧ r.2.mem ((c.tc : Thread Cert.ReferenceAnchorFirstIdeal.nD Cert.ReferenceAnchorFirstIdeal.τ).loc Cert.ReferenceAnchorFirstIdeal.main_arg1) = m ((c.tc : Thread Cert.ReferenceAnchorFirstIdeal.nD Cert.ReferenceAnchorFirstIdeal.τ).loc Cert.ReferenceAnchorFirstIdeal.main_arg1)
      ∧ r.2.mem ((c.tc : Thread Cert.ReferenceAnchorFirstIdeal.nD Cert.ReferenceAnchorFirstIdeal.τ).loc Cert.ReferenceAnchorFirstIdeal.main_arg2) = m ((c.tc : Thread Cert.ReferenceAnchorFirstIdeal.nD Cert.ReferenceAnchorFirstIdeal.τ).loc Cert.ReferenceAnchorFirstIdeal.main_arg2)
      ∧ r.2.mem ((c.tc : Thread Cert.ReferenceAnchorFirstIdeal.nD Cert.ReferenceAnchorFirstIdeal.τ).loc Cert.ReferenceAnchorFirstIdeal.main_arg3) = m ((c.tc : Thread Cert.ReferenceAnchorFirstIdeal.nD Cert.ReferenceAnchorFirstIdeal.τ).loc Cert.ReferenceAnchorFirstIdeal.main_arg3)
      ∧ r.2.mem ((c.tc : Thread Cert.ReferenceAnchorFirstIdeal.nD Cert.ReferenceAnchorFirstIdeal.τ).loc Cert.ReferenceAnchorFirstIdeal.main_arg4) = m ((c.tc : Thread Cert.ReferenceAnchorFirstIdeal.nD Cert.ReferenceAnchorFirstIdeal.τ).loc Cert.ReferenceAnchorFirstIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceAnchorFirstIdeal [hKernelIdeal : Cert.KernelIdeal.Facts] [hReferenceAnchorFirstIdeal : Cert.ReferenceAnchorFirstIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceAnchorFirstIdeal.nD Cert.ReferenceAnchorFirstIdeal.τ Cert.ReferenceAnchorFirstIdeal.sig) → Buf (Elt Ideal) ℓ) (g' : Dev Cert.ReferenceAnchorFirstIdeal.nD → PrngReg), Pre_KernelIdeal m →
    (∀ c : Dev Cert.KernelIdeal.nD,
      m' ((c.tc : Thread Cert.ReferenceAnchorFirstIdeal.nD Cert.ReferenceAnchorFirstIdeal.τ).loc Cert.ReferenceAnchorFirstIdeal.main_arg0) = m ((c.tc : Thread Cert.KernelIdeal.nD Cert.KernelIdeal.τ).loc Cert.KernelIdeal.main_arg0)
      ∧ m' ((c.tc : Thread Cert.ReferenceAnchorFirstIdeal.nD Cert.ReferenceAnchorFirstIdeal.τ).loc Cert.ReferenceAnchorFirstIdeal.main_arg1) = m ((c.tc : Thread Cert.KernelIdeal.nD Cert.KernelIdeal.τ).loc Cert.KernelIdeal.main_arg1)
      ∧ m' ((c.tc : Thread Cert.ReferenceAnchorFirstIdeal.nD Cert.ReferenceAnchorFirstIdeal.τ).loc Cert.ReferenceAnchorFirstIdeal.main_arg2) = m ((c.tc : Thread Cert.KernelIdeal.nD Cert.KernelIdeal.τ).loc Cert.KernelIdeal.main_arg2)
      ∧ m' ((c.tc : Thread Cert.ReferenceAnchorFirstIdeal.nD Cert.ReferenceAnchorFirstIdeal.τ).loc Cert.ReferenceAnchorFirstIdeal.main_arg3) = m ((c.tc : Thread Cert.KernelIdeal.nD Cert.KernelIdeal.τ).loc Cert.KernelIdeal.main_arg3)
      ∧ m' ((c.tc : Thread Cert.ReferenceAnchorFirstIdeal.nD Cert.ReferenceAnchorFirstIdeal.τ).loc Cert.ReferenceAnchorFirstIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceAnchorFirstIdeal.defs (F := Ideal)) (onTc (τ := Cert.ReferenceAnchorFirstIdeal.τ) (Cert.ReferenceAnchorFirstIdeal.main (F := Ideal))) ⟨m', fun _ => 0, g'⟩ (fun r => ∀ c : Dev Cert.ReferenceAnchorFirstIdeal.nD,
          r.2.mem ((c.tc : Thread Cert.ReferenceAnchorFirstIdeal.nD Cert.ReferenceAnchorFirstIdeal.τ).loc Cert.ReferenceAnchorFirstIdeal.main_v11) = v0 c
          ∧ r.2.mem ((c.tc : Thread Cert.ReferenceAnchorFirstIdeal.nD Cert.ReferenceAnchorFirstIdeal.τ).loc Cert.ReferenceAnchorFirstIdeal.main_v23) = v1 c
          ∧ r.2.mem ((c.tc : Thread Cert.ReferenceAnchorFirstIdeal.nD Cert.ReferenceAnchorFirstIdeal.τ).loc Cert.ReferenceAnchorFirstIdeal.main_arg0) = m' ((c.tc : Thread Cert.ReferenceAnchorFirstIdeal.nD Cert.ReferenceAnchorFirstIdeal.τ).loc Cert.ReferenceAnchorFirstIdeal.main_arg0)
          ∧ r.2.mem ((c.tc : Thread Cert.ReferenceAnchorFirstIdeal.nD Cert.ReferenceAnchorFirstIdeal.τ).loc Cert.ReferenceAnchorFirstIdeal.main_arg1) = m' ((c.tc : Thread Cert.ReferenceAnchorFirstIdeal.nD Cert.ReferenceAnchorFirstIdeal.τ).loc Cert.ReferenceAnchorFirstIdeal.main_arg1)
          ∧ r.2.mem ((c.tc : Thread Cert.ReferenceAnchorFirstIdeal.nD Cert.ReferenceAnchorFirstIdeal.τ).loc Cert.ReferenceAnchorFirstIdeal.main_arg2) = m' ((c.tc : Thread Cert.ReferenceAnchorFirstIdeal.nD Cert.ReferenceAnchorFirstIdeal.τ).loc Cert.ReferenceAnchorFirstIdeal.main_arg2)
          ∧ r.2.mem ((c.tc : Thread Cert.ReferenceAnchorFirstIdeal.nD Cert.ReferenceAnchorFirstIdeal.τ).loc Cert.ReferenceAnchorFirstIdeal.main_arg3) = m' ((c.tc : Thread Cert.ReferenceAnchorFirstIdeal.nD Cert.ReferenceAnchorFirstIdeal.τ).loc Cert.ReferenceAnchorFirstIdeal.main_arg3)
          ∧ r.2.mem ((c.tc : Thread Cert.ReferenceAnchorFirstIdeal.nD Cert.ReferenceAnchorFirstIdeal.τ).loc Cert.ReferenceAnchorFirstIdeal.main_arg4) = m' ((c.tc : Thread Cert.ReferenceAnchorFirstIdeal.nD Cert.ReferenceAnchorFirstIdeal.τ).loc Cert.ReferenceAnchorFirstIdeal.main_arg4))

def Claim : Prop :=
  ∃ (hKernel : Cert.Kernel.Facts) (hKernelIdeal : Cert.KernelIdeal.Facts) (hReferenceIdeal : Cert.ReferenceIdeal.Facts) (hReferenceAnchorFirstIdeal : Cert.ReferenceAnchorFirstIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ReferenceAnchorFirstIdeal (hReferenceAnchorFirstIdeal := hReferenceAnchorFirstIdeal)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceAnchorFirstIdeal (hKernelIdeal := hKernelIdeal) (hReferenceAnchorFirstIdeal := hReferenceAnchorFirstIdeal)
-- ==== Pre_finite.lean ====
abbrev S50000x512 : Shape := ⟨2, ![50000, 512]⟩
abbrev S1x512x512 : Shape := ⟨3, ![1, 512, 512]⟩
abbrev S1 : Shape := ⟨1, ![1]⟩
abbrev S_ : Shape := ⟨0, ![]⟩

class Facts : Prop where
  bcast_S_S50000x512 : S_.BroadcastsInDim S50000x512 (![] : Fin 0 → Fin S50000x512.rank)
  bcast_S_S1x512x512 : S_.BroadcastsInDim S1x512x512 (![] : Fin 0 → Fin S1x512x512.rank)

variable [Facts]

def fn {F : FTy → Type} [FloatOps F] (main_arg0 : FVec F S50000x512 .f32) (main_arg1 : FVec F S50000x512 .f32) (main_arg2 : FVec F S50000x512 .f32) (main_arg3 : FVec F S1x512x512 .f32) (main_arg4 : FVec F S1 .f32) : IVec S50000x512 1 × IVec S50000x512 1 × IVec S50000x512 1 × IVec S1x512x512 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_v3 : FVec F S50000x512 .f32 := Host.absf main_arg1
  let main_cst_0 : FVec F S_ .f32 := constant S_ .f32 0x7F800000#32
  let main_v4 : FVec F S50000x512 .f32 := broadcastInDim S50000x512 ![] bcast_S_S50000x512 main_cst_0
  let main_v5 : IVec S50000x512 1 := cmpf .olt main_v3 main_v4
  let main_v6 : FVec F S50000x512 .f32 := Host.absf main_arg2
  let main_cst_1 : FVec F S_ .f32 := constant S_ .f32 0x7F800000#32
  let main_v7 : FVec F S50000x512 .f32 := broadcastInDim S50000x512 ![] bcast_S_S50000x512 main_cst_1
  let main_v8 : IVec S50000x512 1 := cmpf .olt main_v6 main_v7
  let main_v9 : FVec F S1x512x512 .f32 := Host.absf main_arg3
  let main_cst_2 : FVec F S_ .f32 := constant S_ .f32 0x7F800000#32
  let main_v10 : FVec F S1x512x512 .f32 := broadcastInDim S1x512x512 ![] bcast_S_S1x512x512 main_cst_2
  let main_v11 : IVec S1x512x512 1 := cmpf .olt main_v9 main_v10
  (main_v2, main_v5, main_v8, main_v11)
-- ==== Kernel.lean ====
abbrev S50000x512 : Shape := ⟨2, ![50000, 512]⟩
abbrev S1x512x512 : Shape := ⟨3, ![1, 512, 512]⟩
abbrev S1 : Shape := ⟨1, ![1]⟩
abbrev S512x512 : Shape := ⟨2, ![512, 512]⟩
abbrev S25x2x2000 : Shape := ⟨3, ![25, 2, 2000]⟩
abbrev S2000x512 : Shape := ⟨2, ![2000, 512]⟩
abbrev S1x2x2000 : Shape := ⟨3, ![1, 2, 2000]⟩
abbrev S2000 : Shape := ⟨1, ![2000]⟩
abbrev S2000x1 : Shape := ⟨2, ![2000, 1]⟩
abbrev S2000x2 : Shape := ⟨2, ![2000, 2]⟩
abbrev S2x2000 : Shape := ⟨2, ![2, 2000]⟩
abbrev S25x1x2000 : Shape := ⟨3, ![25, 1, 2000]⟩
abbrev S25x2000 : Shape := ⟨2, ![25, 2000]⟩
abbrev S50000 : Shape := ⟨1, ![50000]⟩

abbrev nBuf : Space → Nat
  | .hbm => 13
  | .vmem => 9
  | .smem => 1
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S50000x512, .f32⟩
  | .hbm, ⟨3, _⟩ => ⟨S1x512x512, .f32⟩
  | .hbm, ⟨4, _⟩ => ⟨S1, .f32⟩
  | .hbm, ⟨5, _⟩ => ⟨S512x512, .f32⟩
  | .hbm, ⟨6, _⟩ => ⟨S25x2x2000, .f32⟩
  | .hbm, ⟨7, _⟩ => ⟨S25x1x2000, .f32⟩
  | .hbm, ⟨8, _⟩ => ⟨S25x2000, .f32⟩
  | .hbm, ⟨9, _⟩ => ⟨S50000, .f32⟩
  | .hbm, ⟨10, _⟩ => ⟨S25x1x2000, .f32⟩
  | .hbm, ⟨11, _⟩ => ⟨S25x2000, .f32⟩
  | .hbm, ⟨12, _⟩ => ⟨S50000, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S512x512, .f32⟩
  | .local _ .vmem, ⟨7, _⟩ => ⟨S1x2x2000, .f32⟩
  | .local _ .vmem, ⟨8, _⟩ => ⟨S1x2x2000, .f32⟩
  | .local _ .smem, ⟨0, _⟩ => ⟨S1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x2000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S50000x512 : Shape := ⟨2, ![50000, 512]⟩
abbrev S1x512x512 : Shape := ⟨3, ![1, 512, 512]⟩
abbrev S1 : Shape := ⟨1, ![1]⟩
abbrev S1x512x50000 : Shape := ⟨3, ![1, 512, 50000]⟩
abbrev S50000x1 : Shape := ⟨2, ![50000, 1]⟩
abbrev S1x1 : Shape := ⟨2, ![1, 1]⟩
abbrev S50000 : Shape := ⟨1, ![50000]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S50000x512, .f32⟩
  | .hbm, ⟨3, _⟩ => ⟨S1x512x512, .f32⟩
  | .hbm, ⟨4, _⟩ => ⟨S1, .f32⟩
  | .hbm, ⟨5, _⟩ => ⟨S1x512x50000, .f32⟩
  | .hbm, ⟨6, _⟩ => ⟨S50000x1, .f32⟩
  | .hbm, ⟨7, _⟩ => ⟨S1x1, .f32⟩
  | .hbm, ⟨8, _⟩ => ⟨S50000x1, .f32⟩
  | .hbm, ⟨9, _⟩ => ⟨S50000x1, .f32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S1x512x50000, .f32⟩
  | .hbm, ⟨20, _⟩ => ⟨S50000x1, .f32⟩
  | .hbm, ⟨21, _⟩ => ⟨S1x1, .f32⟩
  | .hbm, ⟨22, _⟩ => ⟨S50000x1, .f32⟩
  | .hbm, ⟨23, _⟩ => ⟨S50000x1, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== ReferenceAnchorFirstIdeal.lean ====
abbrev S50000x512 : Shape := ⟨2, ![50000, 512]⟩
abbrev S1x512x512 : Shape := ⟨3, ![1, 512, 512]⟩
abbrev S1 : Shape := ⟨1, ![1]⟩
abbrev S50000x1x512 : Shape := ⟨3, ![50000, 1, 512]⟩
abbrev S50000x1 : Shape := ⟨2, ![50000, 1]⟩
abbrev S1x1 : Shape := ⟨2, ![1, 1]⟩
abbrev S50000 : Shape := ⟨1, ![50000]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S50000x512, .f32⟩
  | .hbm, ⟨3, _⟩ => ⟨S1x512x512, .f32⟩
  | .hbm, ⟨4, _⟩ => ⟨S1, .f32⟩
  | .hbm, ⟨5, _⟩ => ⟨S50000x1x512, .f32⟩
  | .hbm, ⟨6, _⟩ => ⟨S50000x1, .f32⟩
  | .hbm, ⟨7, _⟩ => ⟨S1x1, .f32⟩
  | .hbm, ⟨8, _⟩ => ⟨S50000x1, .f32⟩
  | .hbm, ⟨9, _⟩ => ⟨S50000x1, .f32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1x512, .f32⟩
  | .hbm, ⟨20, _⟩ => ⟨S50000x1, .f32⟩
  | .hbm, ⟨21, _⟩ => ⟨S1x1, .f32⟩
  | .hbm, ⟨22, _⟩ => ⟨S50000x1, .f32⟩
  | .hbm, ⟨23, _⟩ => ⟨S50000x1, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Spec.lean ====
/- The mathematics of the problem: the score of a pair of feature rows under the bilinear form, and the table of all scores. -/
module

public import proofs.«01_k».proof.Proof.Gen.KernelIdeal
public import Idealize.ShloMosaic.Lib.Pointwise

@[expose] public section

set_option maxRecDepth 16384

noncomputable section

open Idealize.ShloMosaic

namespace Cert.KernelIdeal.Scores

open Cert.KernelIdeal

/-- The bilinear form of row `n` of the features `x` with row `n` of the anchors `a`, each row of the weights
    contracted with the anchor before the features are: `Σ_i x[n,i] · (Σ_j a[n,j] · W[0,i,j]) + b[0]`. -/
def logit (x a : FVec Ideal S50000x512 .f32) (W : FVec Ideal S1x512x512 .f32) (b : FVec Ideal S1 .f32) (n : Fin 50000) : EReal :=
  (∑ i : Fin 512, x (ix2 n i) * ∑ j : Fin 512, a (ix2 n j) * W (ix3 0 i j)) + b (ix1 0)

/-- The score of row `n`: the logistic function of its bilinear form. -/
def score (x a : FVec Ideal S50000x512 .f32) (W : FVec Ideal S1x512x512 .f32) (b : FVec Ideal S1 .f32) (n : Fin 50000) : EReal :=
  Ideal.logistic (logit x a W b n)

/-- Row `l` of block `g` is row `2000 g + l` of the features. -/
def rowOf (g : Fin 25) (l : Fin 2000) : Fin 50000 := ⟨g.val * 2000 + l.val, by omega⟩

/-- The table of scores: for each block of 2000 rows, a line for the positive features `p` and one for the negative `n`. -/
def table (p n a : FVec Ideal S50000x512 .f32) (W : FVec Ideal S1x512x512 .f32) (b : FVec Ideal S1 .f32) : FVec Ideal S25x2x2000 .f32 :=
  fun i => if (i 1 : ℕ) < 1 then score p a W b (rowOf (i 0) (i 2)) else score n a W b (rowOf (i 0) (i 2))

/-- The scores of all rows, in a vector. -/
def scores (x a : FVec Ideal S50000x512 .f32) (W : FVec Ideal S1x512x512 .f32) (b : FVec Ideal S1 .f32) : FVec Ideal S50000 .f32 :=
  fun i => score x a W b (i 0)

end Cert.KernelIdeal.Scores

end
-- ==== Proof.Block.lean ====
/- What the kernel writes: one grid point's block of scores, and from the blocks the whole table. -/
module

public import proofs.«01_k».proof.Proof.Gen.KernelIdeal.Frame
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.KernelIdeal.Scores

open Cert.KernelIdeal Cert.KernelIdeal.Gen

variable (m : (ℓ : Loc nD τ sig) → Buf (Elt Ideal) ℓ)

/-- The table of scores of the kernel's own arguments on device `c`. -/
abbrev tableOf (c : Dev nD) : FVec Ideal S25x2x2000 .f32 :=
  table (m ((c : Thread nD τ).loc main_arg1)) (m ((c : Thread nD τ).loc main_arg2)) (m ((c : Thread nD τ).loc main_arg0))
    (m ((c : Thread nD τ).loc main_arg3)) (m ((c : Thread nD τ).loc main_arg4))

/-- Where each operand's block stands at grid point `t`: the features' and the scores' at the `t`-th block of rows,
    the weights' and the bias's at the start of the array. -/
theorem idx : ∀ t : Fin cfg0.N, win0_0.index t = ![t.val, 0] ∧ win0_1.index t = ![t.val, 0] ∧ win0_2.index t = ![t.val, 0]
    ∧ win0_3.index t = ![0, 0] ∧ win0_4.index t = ![0] ∧ win0_5.index t = ![t.val, 0, 0] :=
  (by decide +kernel : ∀ t : Fin grid0.N, _)

/-- The weights that the kernel is launched on are the argument's one matrix, without its leading axis. -/
theorem weights (c : Dev nD) (x : S512x512.Idx) :
    V m c main_v0 x = m ((c : Thread nD τ).loc main_arg3) (ix3 0 (x 0) (x 1)) := by
  unfold V
  after_reads_at

/-- One block of scores from its operands' blocks: on line 0 the positive features', on line 1 the negative features'. -/
theorem block_at (a p n : FVec Ideal S2000x512 .f32) (w : FVec Ideal S512x512 .f32) (bias : EReal) (r : Fin 2) (l : Fin 2000) :
    k0_pay1 (F := Ideal) a w bias p n (ix3 0 r l)
      = if (r : ℕ) < 1 then Ideal.logistic ((∑ i : Fin 512, p (ix2 l i) * ∑ j : Fin 512, a (ix2 l j) * w (ix2 i j)) + bias)
        else Ideal.logistic ((∑ i : Fin 512, n (ix2 l i) * ∑ j : Fin 512, a (ix2 l j) * w (ix2 i j)) + bias) := by
  pointwise [k0_pay1]
  split <;> rfl

/-- Grid point `t` stores, at each place of its block, the score that the table has at that place of the array. -/
theorem stored (c : Dev nD) (t : Fin cfg0.N) (y : S1x2x2000.Idx) :
    outsAt0 m c t y = tableOf m c (((cfg0.win 5).blk t).view.emb y) := by
  unfold outsAt0
  frame_out
  idx_vars y
  obtain rfl := Subsingleton.elim y0 0
  refine (block_at _ _ _ _ _ y1 y2).trans ?_
  unfold tableOf table score logit rowOf
  blk_point [iblk, V, idx t]
  refine (weights m c _).trans ?_
  blk_ext [idx t]

/-- After the run the kernel's result array is the table of scores. -/
theorem array_eq (c : Dev nD) : (dats m 0 c).arrAt 5 (cfgs 0).N = tableOf m c := by
  refine (dats m 0 c).arrAt_eq_of_covers 5 _ (by decide +kernel) fun t _ y => ?_
  blk_simp
  rw [after0_5]
  exact stored m c t y

end Cert.KernelIdeal.Scores

end
-- ==== Proof.Run.lean ====
/- The kernel's run: its two results are the scores of the positive and of the negative features. -/
module

public import proofs.«01_k».proof.Proof.Block

@[expose] public section

set_option maxRecDepth 16384

noncomputable section

open Idealize.ShloMosaic Idealize.ShloMosaic.TcCoe Idealize.SL.Sem

namespace Cert.KernelIdeal.Scores

open Cert.KernelIdeal Cert.KernelIdeal.Gen

variable (m : (ℓ : Loc nD τ sig) → Buf (Elt Ideal) ℓ)

/-- What device `c`'s buffers hold when the kernel's grid is done: its arrays as the grid leaves them, the rest as before. -/
abbrev left (c : Dev nD) : Valuation τ sig (Elt Ideal) :=
  Pipeline.withArrays (cfgs 0).spec c (V0 m c) fun w => (dats m 0 c).arrAt w (cfgs 0).N

/-- When the grid is done the kernel's result array holds the table of scores. -/
theorem left_table (c : Dev nD) : left m c (Proc.devRef .tc main_v1) = tableOf m c :=
  (Pipeline.withArrays_arr (cfgs 0).spec (by decide) c _ _ 5).trans (array_eq m c)

/-- The first result takes line 0 of every block of the table, in the order of the rows. -/
theorem first_result (X : Valuation τ sig (Elt Ideal)) (i : S50000.Idx) :
    StableHlo.after [hostOps1].flatten X (Proc.devRef .tc main_v4) i
      = (X (Proc.devRef .tc main_v1) : FVec Ideal S25x2x2000 .f32) (ix3 ⟨(i 0).val / 2000, by have : (i 0).val < 50000 := (i 0).isLt; omega⟩ 0 ⟨(i 0).val % 2000, Nat.mod_lt _ (by decide)⟩) := by
  after_reads_at

/-- The second result takes line 1 of every block of the table, in the order of the rows. -/
theorem second_result (X : Valuation τ sig (Elt Ideal)) (i : S50000.Idx) :
    StableHlo.after [hostOps1].flatten X (Proc.devRef .tc main_v7) i
      = (X (Proc.devRef .tc main_v1) : FVec Ideal S25x2x2000 .f32) (ix3 ⟨(i 0).val / 2000, by have : (i 0).val < 50000 := (i 0).isLt; omega⟩ 1 ⟨(i 0).val % 2000, Nat.mod_lt _ (by decide)⟩) := by
  after_reads_at

/-- Line 0 of the table, block by block, is the positive features' scores. -/
theorem table_first (p n a : FVec Ideal S50000x512 .f32) (W : FVec Ideal S1x512x512 .f32) (b : FVec Ideal S1 .f32) (i : S50000.Idx) :
    table p n a W b (ix3 ⟨(i 0).val / 2000, by have : (i 0).val < 50000 := (i 0).isLt; omega⟩ 0 ⟨(i 0).val % 2000, Nat.mod_lt _ (by decide)⟩)
      = scores p a W b i :=
  congrArg (score p a W b) (Fin.ext (Nat.div_add_mod' (i 0).val 2000))

/-- Line 1 of the table, block by block, is the negative features' scores. -/
theorem table_second (p n a : FVec Ideal S50000x512 .f32) (W : FVec Ideal S1x512x512 .f32) (b : FVec Ideal S1 .f32) (i : S50000.Idx) :
    table p n a W b (ix3 ⟨(i 0).val / 2000, by have : (i 0).val < 50000 := (i 0).isLt; omega⟩ 1 ⟨(i 0).val % 2000, Nat.mod_lt _ (by decide)⟩)
      = scores n a W b i :=
  congrArg (score n a W b) (Fin.ext (Nat.div_add_mod' (i 0).val 2000))

/-- Every run of the kernel ends with its two results at the scores of the positive and of the negative features
    against the anchors, and leaves its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v4) = scores (m ((c : Thread nD τ).loc main_arg1)) (m ((c : Thread nD τ).loc main_arg0))
        (m ((c : Thread nD τ).loc main_arg3)) (m ((c : Thread nD τ).loc main_arg4))
      ∧ r.2.mem ((c.tc : Thread nD τ).loc main_v7) = scores (m ((c : Thread nD τ).loc main_arg2)) (m ((c : Thread nD τ).loc main_arg0))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from Gen.run_main m ρ
  · funext i
    refine (first_result (left m c) i).trans ?_
    rw [left_table]
    exact table_first _ _ _ _ _ _
  · funext i
    refine (second_result (left m c) i).trans ?_
    rw [left_table]
    exact table_second _ _ _ _ _ _
  · exact W_main_arg3 m (dats m) c

end Cert.KernelIdeal.Scores

end
-- ==== Proof.Refs.lean ====
/- What the two references compute: row by row the same scores, the one that contracts the anchor first at every
   input, the other where the features and the weights are finite. -/
module

public import proofs.«01_k».proof.Proof.Gen.ReferenceIdeal.Run
public import proofs.«01_k».proof.Proof.Gen.ReferenceAnchorFirstIdeal.Run
public import proofs.«01_k».proof.Proof.Gen.Pre_finite
public import proofs.«01_k».proof.Proof.Spec

@[expose] public section

set_option maxRecDepth 16384

noncomputable section

open Idealize.ShloMosaic

namespace Cert.ReferenceAnchorFirstIdeal.Scores

open Cert.ReferenceAnchorFirstIdeal Cert.ReferenceAnchorFirstIdeal.Gen
open Cert.KernelIdeal.Scores (logit score scores)

/-- The reference that contracts the anchor first, as printed: features `x`, anchors `a`, weights `W`, bias `b`. -/
abbrev out (x a : FVec Ideal S50000x512 .f32) (W : FVec Ideal S1x512x512 .f32) (b : FVec Ideal S1 .f32) : FVec Ideal S50000 .f32 :=
  have one : FVec Ideal S50000 .f32 := broadcastInDim S50000 ![] bcast_S_S50000 (constant S_ .f32 0x3F800000#32)
  have wa : FVec Ideal S50000x1x512 .f32 := Host.dotGeneral dot_S50000x512_S1x512x512_S50000x1x512_1_2_0_01_n_n none a W
  have xwa : FVec Ideal S50000x1 .f32 := Host.dotGeneral dot_S50000x512_S50000x1x512_S50000x1_1_2_n_1_0_0 none x wa
  have bias : FVec Ideal S50000x1 .f32 := broadcastInDim S50000x1 ![0, 1] bcast_S1x1_S50000x1_0_1 (broadcastInDim S1x1 ![1] bcast_S1_S1x1_1 b)
  Host.divf one (addf one (Host.exp (Host.negf (shapeCast S50000 (addf xwa bias) shapeCasts_S50000x1_S50000))))

/-- It computes the scores, whatever the operands hold. -/
theorem out_eq (x a : FVec Ideal S50000x512 .f32) (W : FVec Ideal S1x512x512 .f32) (b : FVec Ideal S1 .f32) :
    out x a W b = scores x a W b := by
  funext i
  pointwise [out, scores, score, logit]
  rfl

end Cert.ReferenceAnchorFirstIdeal.Scores

namespace Cert.ReferenceIdeal.Scores

open Cert.ReferenceIdeal Cert.ReferenceIdeal.Gen
open Cert.KernelIdeal.Scores (logit score scores)

/-- A number whose magnitude the comparison with infinity finds smaller is a real number. -/
theorem real_of_abs_lt {x : EReal} (h : BitVec.ofBool (decide (FloatOps.absf (F := Ideal) (φ := .f32) x < Ideal.ofBits .f32 0x7F800000#32)) = 1#1) :
    ∃ r : ℝ, x = r := by
  have htop : Ideal.ofBits .f32 0x7F800000#32 = ⊤ := by simp [Ideal.ofBits, Ideal.ieee]
  have hx : FloatOps.absf (F := Ideal) (φ := .f32) x < ⊤ := by
    by_contra hn
    rw [htop, decide_eq_false hn] at h
    exact absurd h (by decide)
  induction x with
  | bot => exact absurd hx (by simp [Ideal.absf_def])
  | top => exact absurd hx (by simp [Ideal.absf_def])
  | coe r => exact ⟨r, rfl⟩

/-- A finite sum of real numbers is the same among the extended reals. -/
theorem coe_sum_real {ι : Type} [Fintype ι] (f : ι → ℝ) : ∑ i, (f i : EReal) = ((∑ i, f i : ℝ) : EReal) := by
  classical
  induction (Finset.univ : Finset ι) using Finset.induction_on with
  | empty => simp
  | insert i s hi ih => rw [Finset.sum_insert hi, Finset.sum_insert hi, ih, EReal.coe_add]

/-- Over real numbers a sum of products may be taken over the anchor's features outside or inside. -/
theorem swap {ι κ : Type} [Fintype ι] [Fintype κ] (x : ι → EReal) (a : κ → EReal) (w : ι → κ → EReal)
    (hx : ∀ i, ∃ r : ℝ, x i = r) (ha : ∀ j, ∃ r : ℝ, a j = r) (hw : ∀ i j, ∃ r : ℝ, w i j = r) :
    ∑ j, a j * ∑ i, w i j * x i = ∑ i, x i * ∑ j, a j * w i j := by
  choose x' hx using hx
  choose a' ha using ha
  choose w' hw using hw
  simp only [hx, ha, hw, ← EReal.coe_mul, coe_sum_real]
  simp only [Finset.mul_sum]
  rw [Finset.sum_comm]
  congr 1
  exact Finset.sum_congr rfl fun i _ => Finset.sum_congr rfl fun j _ => by ring

/-- The reference as printed, which contracts the features first: features `x`, anchors `a`, weights `W`, bias `b`. -/
abbrev out (x a : FVec Ideal S50000x512 .f32) (W : FVec Ideal S1x512x512 .f32) (b : FVec Ideal S1 .f32) : FVec Ideal S50000 .f32 :=
  have one : FVec Ideal S50000 .f32 := broadcastInDim S50000 ![] bcast_S_S50000 (constant S_ .f32 0x3F800000#32)
  have wx : FVec Ideal S1x512x50000 .f32 := Host.dotGeneral dot_S1x512x512_S50000x512_S1x512x50000_1_1_02_0_n_n none W x
  have awx : FVec Ideal S50000x1 .f32 := Host.dotGeneral dot_S50000x512_S1x512x50000_S50000x1_1_1_n_0_0_2 none a wx
  have bias : FVec Ideal S50000x1 .f32 := broadcastInDim S50000x1 ![0, 1] bcast_S1x1_S50000x1_0_1 (broadcastInDim S1x1 ![1] bcast_S1_S1x1_1 b)
  Host.divf one (addf one (Host.exp (Host.negf (shapeCast S50000 (addf awx bias) shapeCasts_S50000x1_S50000))))

/-- It computes the scores where features, anchors and weights are real numbers. -/
theorem out_eq (x a : FVec Ideal S50000x512 .f32) (W : FVec Ideal S1x512x512 .f32) (b : FVec Ideal S1 .f32)
    (hx : ∀ i j, ∃ r : ℝ, x (ix2 i j) = r) (ha : ∀ i j, ∃ r : ℝ, a (ix2 i j) = r) (hW : ∀ i j, ∃ r : ℝ, W (ix3 0 i j) = r) :
    out x a W b = scores x a W b := by
  funext i
  pointwise [out, scores, score, logit]
  rw [swap (fun k => x (ix2 (i 0) k)) (fun k => a (ix2 (i 0) k)) (fun k l => W (ix3 0 k l)) (hx (i 0)) (ha (i 0)) hW]
  rfl

/-- What the precondition says: anchors, positive features, negative features and weights are all real numbers. -/
theorem real_of_finite {a p n : FVec Ideal S50000x512 .f32} {W : FVec Ideal S1x512x512 .f32} {b : FVec Ideal S1 .f32}
    (h : (Cert.Pre_finite.fn (F := Ideal) a p n W b).1 = (fun _ => 1#1) ∧ (Cert.Pre_finite.fn (F := Ideal) a p n W b).2.1 = (fun _ => 1#1)
      ∧ (Cert.Pre_finite.fn (F := Ideal) a p n W b).2.2.1 = (fun _ => 1#1) ∧ (Cert.Pre_finite.fn (F := Ideal) a p n W b).2.2.2 = (fun _ => 1#1)) :
    (∀ i j, ∃ r : ℝ, a (ix2 i j) = r) ∧ (∀ i j, ∃ r : ℝ, p (ix2 i j) = r) ∧ (∀ i j, ∃ r : ℝ, n (ix2 i j) = r)
      ∧ ∀ i j, ∃ r : ℝ, W (ix3 0 i j) = r := by
  obtain ⟨h0, h1, h2, h3⟩ := h
  refine ⟨fun i j => ?_, fun i j => ?_, fun i j => ?_, fun i j => ?_⟩
  · have e := congrFun h0 (ix2 i j)
    pointwise [Cert.Pre_finite.fn] at e
    exact real_of_abs_lt e
  · have e := congrFun h1 (ix2 i j)
    pointwise [Cert.Pre_finite.fn] at e
    exact real_of_abs_lt e
  · have e := congrFun h2 (ix2 i j)
    pointwise [Cert.Pre_finite.fn] at e
    exact real_of_abs_lt e
  · have e := congrFun h3 (ix3 0 i j)
    pointwise [Cert.Pre_finite.fn] at e
    exact real_of_abs_lt e

end Cert.ReferenceIdeal.Scores

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceAnchorFirstIdeal.Run
public import proofs.«01_k».proof.Proof.Gen.ReferenceAnchorFirstIdeal
public import proofs.«01_k».proof.Proof.Gen.Pre_finite
public import proofs.«01_k».proof.Proof.Run
public import proofs.«01_k».proof.Proof.Refs
public import Idealize.ShloMosaic.Lib.Quiescent
public import Idealize.ShloMosaic.Adequacy
public import Idealize.ShloMosaic.Init

@[expose] public section

noncomputable section

namespace Cert.Proof

open Idealize.ShloMosaic Idealize.SL.Sem

/-- The reference that contracts the features first runs, leaves its arguments as they were and every semaphore at zero. -/
theorem reference_quiescent : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference that contracts the anchor first runs, leaves its arguments as they were and every semaphore at zero. -/
theorem anchor_first_quiescent :
    Cert.quiescent_ReferenceAnchorFirstIdeal (hReferenceAnchorFirstIdeal := Cert.ReferenceAnchorFirstIdeal.Gen.facts) := fun m ρ _ =>
  (θ_run Cert.ReferenceAnchorFirstIdeal.defs _ _).mono
    (fun r h => ⟨fun c => (h c).2.2, Idealize.ShloMosaic.sem_eq_zero_of_no_sems (by decide) r.2⟩)
    (Cert.ReferenceAnchorFirstIdeal.Value.run (F := Ideal) m ρ)

/-- Where features and weights are finite the kernel's two results are the reference's. -/
theorem kernel_eq_reference :
    Cert.algebraic_KernelIdeal_ReferenceIdeal_pre_finite (hKernelIdeal := Cert.KernelIdeal.Gen.facts)
      (hReferenceIdeal := Cert.ReferenceIdeal.Gen.facts) (hPre_finite := Cert.Pre_finite.Gen.facts) := by
  intro m g m' g' hpre hagree
  refine ⟨_, _, Cert.KernelIdeal.Scores.run m g, (θ_run Cert.ReferenceIdeal.defs _ _).mono (fun r h c => ?_)
    (Cert.ReferenceIdeal.Value.run (F := Ideal) m' g')⟩
  obtain ⟨h0, h1, h2, h3, h4⟩ := hagree c
  obtain ⟨ra, rp, rn, rW⟩ := Cert.ReferenceIdeal.Scores.real_of_finite (hpre c)
  refine ⟨(h c).1.trans ?_, (h c).2.1.trans ?_, (h c).2.2⟩
  · rw [h0, h1, h3, h4]
    exact Cert.ReferenceIdeal.Scores.out_eq _ _ _ _ rp ra rW
  · rw [h0, h2, h3, h4]
    exact Cert.ReferenceIdeal.Scores.out_eq _ _ _ _ rn ra rW

/-- At every input the kernel's two results are those of the reference contracted in the kernel's order. -/
theorem kernel_eq_anchor_first :
    Cert.algebraic_KernelIdeal_ReferenceAnchorFirstIdeal (hKernelIdeal := Cert.KernelIdeal.Gen.facts)
      (hReferenceAnchorFirstIdeal := Cert.ReferenceAnchorFirstIdeal.Gen.facts) := by
  intro m g m' g' _ hagree
  refine ⟨_, _, Cert.KernelIdeal.Scores.run m g, (θ_run Cert.ReferenceAnchorFirstIdeal.defs _ _).mono (fun r h c => ?_)
    (Cert.ReferenceAnchorFirstIdeal.Value.run (F := Ideal) m' g')⟩
  obtain ⟨h0, h1, h2, h3, h4⟩ := hagree c
  refine ⟨(h c).1.trans ?_, (h c).2.1.trans ?_, (h c).2.2⟩
  · rw [h0, h1, h3, h4]
    exact Cert.ReferenceAnchorFirstIdeal.Scores.out_eq _ _ _ _
  · rw [h0, h2, h3, h4]
    exact Cert.ReferenceAnchorFirstIdeal.Scores.out_eq _ _ _ _

/-- Every claim of the package. -/
theorem claim : Cert.Claim :=
  ⟨Cert.Kernel.Gen.facts, Cert.KernelIdeal.Gen.facts, Cert.ReferenceIdeal.Gen.facts, Cert.ReferenceAnchorFirstIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    anchor_first_quiescent,
    trivial,
    kernel_eq_reference,
    kernel_eq_anchor_first⟩

end Cert.Proof

end
